-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S1024x200 : Shape := ⟨2, ![1024, 200]⟩
abbrev S1024x200x64 : Shape := ⟨3, ![1024, 200, 64]⟩
abbrev S100000x128 : Shape := ⟨2, ![100000, 128]⟩
abbrev S_ : Shape := ⟨0, ![]⟩

class Facts : Prop where
  bcast_S_S1024x200 : S_.BroadcastsInDim S1024x200 (![] : Fin 0 → Fin S1024x200.rank)

variable [Facts]

def fn {F : FTy → Type} [FloatOps F] (main_arg0 : IVec S1024x200 32) (main_arg1 : FVec F S1024x200x64 .f32) (main_arg2 : FVec F S100000x128 .f32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  main_v4
-- ==== Kernel.lean ====
abbrev S1024x200 : Shape := ⟨2, ![1024, 200]⟩
abbrev S1024x200x64 : Shape := ⟨3, ![1024, 200, 64]⟩
abbrev S100000x128 : Shape := ⟨2, ![100000, 128]⟩
abbrev S204800 : Shape := ⟨1, ![204800]⟩
abbrev S204800x64 : Shape := ⟨2, ![204800, 64]⟩
abbrev S204800x192 : Shape := ⟨2, ![204800, 192]⟩
abbrev S6400 : Shape := ⟨1, ![6400]⟩
abbrev S128x128 : Shape := ⟨2, ![128, 128]⟩
abbrev S_ : Shape := ⟨0, ![]⟩
abbrev S6400x64 : Shape := ⟨2, ![6400, 64]⟩
abbrev S128 : Shape := ⟨1, ![128]⟩
abbrev S1024x200x192 : Shape := ⟨3, ![1024, 200, 192]⟩

abbrev nBuf : Table → Nat
  | .hbm => 7
  | .local .scVector .vmem => 2
  | _ => 0

abbrev bufTy : (tb : Table) → Fin (nBuf tb) → BufTy
  | .hbm, ⟨0, _⟩ => ⟨S1024x200, .i32⟩
  | .hbm, ⟨1, _⟩ => ⟨S1024x200x64, .f32⟩
  | .hbm, ⟨2, _⟩ => ⟨S100000x128, .f32⟩
  | .hbm, ⟨3, _⟩ => ⟨S204800, .i32⟩
  | .hbm, ⟨4, _⟩ => ⟨S204800x64, .f32⟩
  | .hbm, ⟨5, _⟩ => ⟨S204800x192, .f32⟩
  | .hbm, ⟨6, _⟩ => ⟨S1024x200x192, .f32⟩
  | .local .scVector .vmem, ⟨0, _⟩ => ⟨S6400, .i32⟩
  | .local .scVector .vmem, ⟨1, _⟩ => ⟨S128x128, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_arg2_scv : Ref sig .scVector := ⟨.hbm, 2, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c128_i32_r0 : BitVec 32 := 128#32
  ![v2.toNat, 128]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_2_r0 : BitVec 32 := 0#32
  ![v2.toNat, 0]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k0_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k0_off4 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c128_i32 : BitVec 32 := 128#32
  let v5 : BitVec 32 := Scalar.muli arg9 c128_i32
  ![v5.toNat]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg9 : BitVec 32 := Scf.iv c0_i32_0 c1_i32 k0_t1
  let c128_i32 : BitVec 32 := 128#32
  let v5 : BitVec 32 := Scalar.muli arg9 c128_i32
  let v10 : BitVec 32 := Scalar.addi v2 v5
  let c0_i32_7_r2 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S1024x200x64 : Shape := ⟨3, ![1024, 200, 64]⟩
abbrev S100000x128 : Shape := ⟨2, ![100000, 128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1024x200x192 : Shape := ⟨3, ![1024, 200, 192]⟩

abbrev nBuf : Space → Nat
  | .hbm => 27
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200x64, .f32⟩
  | .hbm, ⟨2, _⟩ => ⟨S100000x128, .f32⟩
  | .hbm, ⟨3, _⟩ => ⟨S_, .i32⟩
  | .hbm, ⟨4, _⟩ => ⟨S1024x200, .i32⟩
  | .hbm, ⟨5, _⟩ => ⟨S1024x200, .i1⟩
  | .hbm, ⟨6, _⟩ => ⟨S_, .i32⟩
  | .hbm, ⟨7, _⟩ => ⟨S1024x200, .i32⟩
  | .hbm, ⟨8, _⟩ => ⟨S1024x200, .i32⟩
  | .hbm, ⟨9, _⟩ => ⟨S1024x200, .i32⟩
  | .hbm, ⟨10, _⟩ => ⟨S1024x200x1, .i32⟩
  | .hbm, ⟨11, _⟩ => ⟨S1, .i32⟩
  | .hbm, ⟨12, _⟩ => ⟨S_, .i32⟩
  | .hbm, ⟨13, _⟩ => ⟨S1024x200x1, .i32⟩
  | .hbm, ⟨14, _⟩ => ⟨S1024x200x1, .i1⟩
  | .hbm, ⟨15, _⟩ => ⟨S1x1x1, .i32⟩
  | .hbm, ⟨16, _⟩ => ⟨S1024x200x1, .i32⟩
  | .hbm, ⟨17, _⟩ => ⟨S1024x200x1, .i1⟩
  | .hbm, ⟨18, _⟩ => ⟨S1024x200x1, .i1⟩
  | .hbm, ⟨19, _⟩ => ⟨S_, .i1⟩
  | .hbm, ⟨20, _⟩ => ⟨S1024x200, .i1⟩
  | .hbm, ⟨21, _⟩ => ⟨S1024x200x128, .f32⟩
  | .hbm, ⟨22, _⟩ => ⟨S1024x200x128, .i1⟩
  | .hbm, ⟨23, _⟩ => ⟨S_, .f32⟩
  | .hbm, ⟨24, _⟩ => ⟨S1024x200x128, .f32⟩
  | .hbm, ⟨25, _⟩ => ⟨S1024x200x128, .f32⟩
  | .hbm, ⟨26, _⟩ => ⟨S1024x200x192, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Proof.TileIdeal.lean ====
/-
  One task of the idealized embedding lookup, at the kernel's own coordinates: what the thirty-two tasks share, what each is
  handed and hands back, and the run of one task's body with the words it leaves in the output.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.LookupIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on sixteen subcores of each SparseCore. -/
theorem nSub_zero : (K (F := F)).nSub 0 = 16 := rfl
/-- The call runs on both SparseCores. -/
theorem nCore_zero : (K (F := F)).nCore 0 = 2 := rfl

/-- What the launch asks of the configuration: its semaphores told apart, and no task's buffer shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat index array, the flat dense features, the table and the output, as device `d`'s TensorCore names them. -/
abbrev iLoc (d : Dev nD) : Loc nD τ sig := (SparseCore.T d).loc main_v0
abbrev xLoc (d : Dev nD) : Loc nD τ sig := (SparseCore.T d).loc main_v1
abbrev tLoc (d : Dev nD) : Loc nD τ sig := (SparseCore.T d).loc main_arg2
abbrev oLoc (d : Dev nD) : Loc nD τ sig := (SparseCore.T d).loc main_v2

local notation "iV" => (Memref.whole Cert.KernelIdeal.main_v0_scv : Memref Cert.KernelIdeal.sig Kind.scVector Space.hbm Cert.KernelIdeal.S204800 EltTy.i32)
local notation "xV" => (Memref.whole Cert.KernelIdeal.main_v1_scv : Memref Cert.KernelIdeal.sig Kind.scVector Space.hbm Cert.KernelIdeal.S204800x64 EltTy.f32)
local notation "tV" => (Memref.whole Cert.KernelIdeal.main_arg2_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S204800x192 EltTy.f32)
local notation "sV" => (Memref.whole Cert.KernelIdeal.cc0_scratch0 : Memref Cert.KernelIdeal.sig Kind.scVector Space.vmem Cert.KernelIdeal.S6400 EltTy.i32)
local notation "rV" => (Memref.whole Cert.KernelIdeal.cc0_scratch1 : Memref Cert.KernelIdeal.sig Kind.scVector Space.vmem Cert.KernelIdeal.S128x128 EltTy.f32)

/-! ## What the output is to hold -/

/-- Row `r` of the output: the table's row that the `r`-th index names, then the `r`-th row of the dense features. (The
    remainder makes the definition total; an index in range is its own remainder.) -/
def want (fI : S204800.Idx → Elt F .i32) (fX : S204800x64.Idx → Elt F .f32) (fT : S100000x128.Idx → Elt F .f32) :
    S204800x192.Idx → Elt F .f32 := fun x =>
  if h : (x 1).val < 128 then
    fT (ValueIdx.ix2 ⟨(fI (ValueIdx.ix1 (x 0)) : BitVec 32).toNat % 100000, Nat.mod_lt _ (by decide)⟩ ⟨(x 1).val, h⟩)
  else fX (ValueIdx.ix2 (x 0) ⟨(x 1).val - 128, by have h2 : (x 1).val < 192 := (x 1).isLt; show _ < 64; omega⟩)

/-- The output rows of worker `w`: 6400 of them, all 192 columns. -/
def blk (w : Fin 32) : Finset S204800x192.Idx := Finset.univ.filter fun x => (x 0).val / 6400 = w.val

/-! ## The task's coordinates and the windows its body names -/

section Tile

abbrev cV (L : grid0.Coords) : Fin τ.nSC := (L 0).castLE hcore0
abbrev jV (L : grid0.Coords) : Fin τ.nSub := (L 1).castLE hsub0

/-- The worker's number: subcore first, SparseCore last. -/
def wk (L : grid0.Coords) : Fin 32 := ⟨2 * (L 1).val + (L 0).val, by
  have h1 : (L 1).val < 16 := (L 1).isLt
  have h0 : (L 0).val < 2 := (L 0).isLt
  omega⟩

/-- The features' destination, columns 128 to 191 of the worker's rows; and each chunk's, columns 0 to 127 of 128 rows. -/
abbrev featK (L : grid0.Coords) : Memref sig .scVector .hbm S6400x64 .f32 :=
  (oV).slice (Rect.unit (s := S204800x192) (k0_off1 L) S6400x64.size (k0_off1_inb L)) (fun _ => rfl)
abbrev chunkK (L : grid0.Coords) (k : Fin k0_t1_loop.trips) : Memref sig .scVector .hbm S128x128 .f32 :=
  (oV).slice (Rect.unit (s := S204800x192) (k0_off5 L k) S128x128.size (k0_off5_inb L k)) (fun _ => rfl)
/-- The sources: the worker's rows of the features, its run of the indices, a chunk's run of the index scratch. -/
abbrev featSrc (L : grid0.Coords) : Memref sig .scVector .hbm S6400x64 .f32 :=
  (xV).slice (Rect.unit (s := S204800x64) (k0_off2 L) S6400x64.size (k0_off2_inb L)) (fun _ => rfl)
abbrev idxSrc (L : grid0.Coords) : Memref sig .scVector .hbm S6400 .i32 :=
  (iV).slice (Rect.unit (s := S204800) (k0_off3 L) S6400.size (k0_off3_inb L)) (fun _ => rfl)
abbrev listK (k : Fin k0_t1_loop.trips) : Memref sig .scVector .vmem S128 .i32 :=
  (sV).slice (Rect.unit (s := S6400) (k0_off4 k) S128.size (k0_off4_inb k)) (fun _ => rfl)
abbrev tabK : Memref sig .scVector .hbm S100000x128 .f32 :=
  (tV).slice (Rect.unit (s := S100000x128) ![0, 0] S100000x128.size inb_S100000x128_S100000x128_0_0) (fun _ => rfl)

/-- The loop makes fifty trips. -/
theorem trips_le : k0_t1_loop.trips ≤ 50 := k0_t1_abs.2.1
theorem trips_eq : k0_t1_loop.trips = 50 := by decide +kernel

/-- An element lies in the features' destination when its row is the worker's and its column is past the first 128. -/
theorem mem_featK (L : grid0.Coords) (x : S204800x192.Idx) :
    x ∈ (featK L).view.set ↔ ((x 0).val / 6400 = (wk L).val ∧ 128 ≤ (x 1).val) := by
  have e : (featK L).view.set = (Rect.unit (s := S204800x192) (k0_off1 L) S6400x64.size (k0_off1_inb L)).set := by
    show ((View.whole (main_v2_scv : Ref sig .scVector)).slice _).set = _
    rw [View.set_slice]; exact Finset.map_refl
  have h1 : (x 1).val < 192 := (x 1).isLt
  rw [e, Rect.mem_set_unit, k0_off1_eq]
  constructor
  · intro h
    have a := h 0
    have b := h 1
    simp [wk] at a b ⊢
    omega
  · rintro ⟨a, b⟩ i
    simp only [wk] at a
    match i with
    | 0 => simp; omega
    | 1 => simp; omega

/-- An element lies in chunk `k`'s destination when its row is one of the chunk's 128 and its column is below 128. -/
theorem mem_chunkK (L : grid0.Coords) (k : Fin k0_t1_loop.trips) (x : S204800x192.Idx) :
    x ∈ (chunkK L k).view.set ↔ ((x 0).val / 128 = 50 * (wk L).val + k.val ∧ (x 1).val < 128) := by
  have e : (chunkK L k).view.set = (Rect.unit (s := S204800x192) (k0_off5 L k) S128x128.size (k0_off5_inb L k)).set := by
    show ((View.whole (main_v2_scv : Ref sig .scVector)).slice _).set = _
    rw [View.set_slice]; exact Finset.map_refl
  rw [e, Rect.mem_set_unit, k0_off5_eq]
  constructor
  · intro h
    have a := h 0
    have b := h 1
    simp [wk] at a b ⊢
    omega
  · rintro ⟨a, b⟩ i
    simp only [wk] at a
    match i with
    | 0 => simp; omega
    | 1 => simp; omega

/-- The worker's rows, less the features' columns: what the loop fills. -/
def left (L : grid0.Coords) : Finset S204800x192.Idx := blk (wk L) \ (featK L).view.set

theorem mem_left (L : grid0.Coords) (x : S204800x192.Idx) :
    x ∈ left L ↔ ((x 0).val / 6400 = (wk L).val ∧ (x 1).val < 128) := by
  unfold left blk
  rw [Finset.mem_sdiff, mem_featK, Finset.mem_filter]
  constructor
  · rintro ⟨⟨-, a⟩, b⟩; exact ⟨a, by by_contra h; exact b ⟨a, by omega⟩⟩
  · rintro ⟨a, b⟩; exact ⟨⟨Finset.mem_univ _, a⟩, fun h => by omega⟩

theorem featK_subset (L : grid0.Coords) : (featK L).view.set ⊆ blk (wk L) := fun x hx =>
  Finset.mem_filter.mpr ⟨Finset.mem_univ _, ((mem_featK L x).mp hx).1⟩

theorem chunkK_subset (L : grid0.Coords) (k : Fin k0_t1_loop.trips) : (chunkK L k).view.set ⊆ left L := fun x hx => by
  have h := (mem_chunkK L k x).mp hx
  have hk : k.val < 50 := lt_of_lt_of_le k.isLt trips_le
  refine (mem_left L x).mpr ⟨?_, h.2⟩
  omega

variable (fI : S204800.Idx → Elt F .i32) (fX : S204800x64.Idx → Elt F .f32) (fT : S100000x128.Idx → Elt F .f32) (fO : S204800x192.Idx → Elt F .f32)

/-- The output's left part after `k` chunks: the chunks written hold what is wanted, the others what they held. -/
def filled (L : grid0.Coords) (k : ℕ) : S204800x192.Idx → Elt F .f32 := fun x =>
  if (x 0).val / 128 < 50 * (wk L).val + k then want fI fX fT x else fO x

/-- The index scratch once its copy has landed. -/
def lst (L : grid0.Coords) : S6400.Idx → Elt F .i32 := (idxSrc L).view.read (Elt F) fI

theorem lst_apply (L : grid0.Coords) (j : S6400.Idx) (r : Fin 204800) (h : r.val = 6400 * (wk L).val + (j 0).val) :
    lst fI L j = fI (ValueIdx.ix1 r) := by
  unfold lst
  rw [View.read_apply]
  show fI ((Rect.unit (s := S204800) (k0_off3 L) S6400.size (k0_off3_inb L)).emb j) = _
  congr 1
  funext a
  match a with
  | ⟨0, _⟩ =>
    apply Fin.ext
    show k0_off3 L 0 + 1 * (j 0).val = r.val
    rw [k0_off3_eq, h]
    simp [wk]
    omega

/-- Every word of a chunk's list names a row of the table. -/
theorem list_inRange (hI : ∀ j, (fI j : BitVec 32).toNat < 100000) (L : grid0.Coords) (k : Fin k0_t1_loop.trips) :
    ∀ x, ((listK k).view.read (Elt F) (lst fI L) x : BitVec 32).toNat < S100000x128.size gathers_S100000x128_S128x128.axis := by
  intro x
  exact hI _

/-- What the features' copy leaves under its destination is what is wanted there. -/
theorem feat_value (L : grid0.Coords) (f : S204800x192.Idx → Elt F .f32) (x : S204800x192.Idx) (hx : x ∈ (featK L).view.set) :
    (featK L).view.write (Elt F) f ((featSrc L).view.read (Elt F) fX) Finset.univ x = want fI fX fT x := by
  have hc := (mem_featK L x).mp hx
  obtain ⟨y, -, rfl⟩ := Finset.mem_map.mp hx
  rw [View.write_emb_of_mem _ _ (Finset.mem_univ y), View.read_apply]
  have h0 : (((featK L).view.emb y) 0).val = 6400 * (wk L).val + (y 0).val := by
    show k0_off1 L 0 + 1 * (y 0).val = _
    rw [k0_off1_eq]; simp [wk]; omega
  have h1 : (((featK L).view.emb y) 1).val = 128 + (y 1).val := by
    show k0_off1 L 1 + 1 * (y 1).val = _
    rw [k0_off1_eq]; simp
  unfold want
  rw [dif_neg (by omega)]
  show fX ((featSrc L).view.emb y) = _
  congr 1
  funext a
  match a with
  | ⟨0, _⟩ =>
    apply Fin.ext
    show k0_off2 L 0 + 1 * (y 0).val = (((featK L).view.emb y) 0).val
    rw [h0, k0_off2_eq]; simp [wk]; omega
  | ⟨1, _⟩ =>
    apply Fin.ext
    show k0_off2 L 1 + 1 * (y 1).val = (((featK L).view.emb y) 1).val - 128
    rw [h1, k0_off2_eq]; simp

/-- The rows the gather of chunk `k` lands: at row `a` of the chunk, the table's row that the chunk's `a`-th index names. -/
theorem gathered_apply (hI : ∀ j, (fI j : BitVec 32).toNat < 100000) (L : grid0.Coords) (k : Fin k0_t1_loop.trips)
    (hn : S128.numel = S128x128.size gathers_S100000x128_S128x128.axis')
    (hin : ∀ x, ((listK k).view.read (Elt F) (lst fI L) x : BitVec 32).toNat < S100000x128.size gathers_S100000x128_S128x128.axis)
    (y : S128x128.Idx) (x : S204800x192.Idx) (h0 : (x 0).val = 6400 * (wk L).val + 128 * k.val + (y 0).val) (h1 : (x 1).val = (y 1).val) :
    SparseCore.gatherPayload gathers_S100000x128_S128x128 ((tabK).view.read (Elt F) fT)
      (SparseCore.rows ((listK k).view.read (Elt F) (lst fI L)) hn hin) y = want fI fX fT x := by
  have hy : (y 1).val < 128 := (y 1).isLt
  have hy0 : (y 0).val < 128 := (y 0).isLt
  have hk : k.val < 50 := lt_of_lt_of_le k.isLt trips_le
  unfold want SparseCore.gatherPayload
  rw [dif_pos (by omega), View.read_apply]
  show fT ((tabK).view.emb _) = _
  congr 1
  have hrow : ((S128.rowMajor.symm ((y gathers_S100000x128_S128x128.axis').cast hn.symm)) 0).val = (y 0).val := by
    have e := congrArg Fin.val (S128.rowMajor.apply_symm_apply ((y gathers_S100000x128_S128x128.axis').cast hn.symm))
    exact (Shape.rowMajor_val_one _).symm.trans e
  funext a
  match a with
  | ⟨0, _⟩ =>
    apply Fin.ext
    show 0 + 1 * ((gathers_S100000x128_S128x128).idx _ y (gathers_S100000x128_S128x128).axis).val = (fI (ValueIdx.ix1 (x 0)) : BitVec 32).toNat % 100000
    rw [Shape.Gathers.idx_axis, Nat.mod_eq_of_lt (hI _)]
    show 0 + 1 * ((listK k).view.read (Elt F) (lst fI L) _ : BitVec 32).toNat = _
    rw [Nat.zero_add, Nat.one_mul, View.read_apply]
    show (lst fI L ((listK k).view.emb _) : BitVec 32).toNat = _
    rw [lst_apply fI L _ (x 0)]
    show _ = 6400 * (wk L).val + (k0_off4 k 0 + 1 * _)
    have e4 : k0_off4 k 0 = 128 * k.val := by rw [k0_off4_eq]; rfl
    rw [e4, hrow, h0]
    omega
  | ⟨1, _⟩ =>
    apply Fin.ext
    show 0 + 1 * ((gathers_S100000x128_S128x128).idx _ y 1).val = (x 1).val
    rw [Shape.Gathers.idx_of_ne _ _ _ _ (by decide), h1, Nat.zero_add, Nat.one_mul]
    rfl

/-- Chunk `k` written with what its gather landed: on the left part, the next stage of the filling. -/
theorem chunk_value (hI : ∀ j, (fI j : BitVec 32).toNat < 100000) (L : grid0.Coords) (k : Fin k0_t1_loop.trips)
    (w : S128x128.Idx → Elt F .f32)
    (hw : ∀ (y : S128x128.Idx) (x : S204800x192.Idx), (x 0).val = 6400 * (wk L).val + 128 * k.val + (y 0).val → (x 1).val = (y 1).val →
      w y = want fI fX fT x)
    (f : S204800x192.Idx → Elt F .f32) (x : S204800x192.Idx) (hx : x ∈ (chunkK L k).view.set) :
    (chunkK L k).view.write (Elt F) f w Finset.univ x = filled fI fX fT fO L (k.val + 1) x := by
  have hc := (mem_chunkK L k x).mp hx
  obtain ⟨y, -, rfl⟩ := Finset.mem_map.mp hx
  rw [View.write_emb_of_mem _ _ (Finset.mem_univ y)]
  unfold filled
  rw [if_pos (by omega)]
  show w y = _
  refine hw y _ ?_ ?_
  · show k0_off5 L k 0 + 1 * (y 0).val = _
    rw [k0_off5_eq]; simp [wk]; omega
  · show k0_off5 L k 1 + 1 * (y 1).val = _
    rw [k0_off5_eq]; simp

/-- Off the chunk, that stage is the one before. -/
theorem filled_off (L : grid0.Coords) (k : Fin k0_t1_loop.trips) (x : S204800x192.Idx) (hx : x ∈ left L \ (chunkK L k).view.set) :
    filled fI fX fT fO L k.val x = filled fI fX fT fO L (k.val + 1) x := by
  obtain ⟨hl, hn⟩ := Finset.mem_sdiff.mp hx
  have hl := (mem_left L x).mp hl
  rw [mem_chunkK] at hn
  unfold filled
  by_cases h : (x 0).val / 128 < 50 * (wk L).val + k.val
  · rw [if_pos h, if_pos (by omega)]
  · rw [if_neg h, if_neg (by omega)]

theorem filled_zero (L : grid0.Coords) (x : S204800x192.Idx) (hx : x ∈ left L) : filled fI fX fT fO L 0 x = fO x := by
  have h := (mem_left L x).mp hx
  unfold filled
  rw [if_neg (by omega)]

theorem filled_all (L : grid0.Coords) (x : S204800x192.Idx) (hx : x ∈ left L) : filled fI fX fT fO L k0_t1_loop.trips x = want fI fX fT x := by
  have h := (mem_left L x).mp hx
  unfold filled
  rw [trips_eq, if_pos (by omega)]

/-! ## The task's resources -/

/-- The share of each array it reads that worker `w` is lent. -/
abbrev rd (w : Fin 32) : PosShare TreeShare := leaf 5 fullShare w

variable (d : Dev nD)

abbrev thr (L : grid0.Coords) : Thread nD τ := V d (cV L) (jV L)

/-- What worker `w` is handed: a thirty-second of the indices, of the features and of the table to read, and its rows of
    the output outright. -/
abbrev hand (w : Fin 32) (f : S204800x192.Idx → Elt F .f32) : sProp 𝕄 :=
  iprop((iLoc d ↦{rd w} fI) ∗ (xLoc d ↦{rd w} fX) ∗ (tLoc d ↦{rd w} fT) ∗ (oLoc d ↦[blk w]{fullShare} f))

abbrev gcell (L : grid0.Coords) : GSem nD τ sig := (thr d L, .dma cc0_scratch2.sem)
abbrev acell (L : grid0.Coords) : GSem nD τ sig := (thr d L, .dma cc0_scoped0.sem)
abbrev bcell (L : grid0.Coords) : GSem nD τ sig := (thr d L, .dma cc0_scoped1.sem)
abbrev ccell (L : grid0.Coords) : GSem nD τ sig := (thr d L, .dma cc0_scoped2.sem)

/-- The task's own semaphores: the four it uses, at zero, and the rest. -/
theorem ownSems0_V (L : grid0.Coords) :
    (ownSems0 (thr d L) : sProp 𝕄)
      = iprop(semVal (gcell d L) 0 ∗ semVal (acell d L) 0 ∗ semVal (bcell d L) 0 ∗ semVal (ccell d L) 0
          ∗ bigSep (((((ownCells (thr d L)).erase (gcell d L)).erase (acell d L)).erase (bcell d L)).erase (ccell d L)) fun g => semVal g 0) := by
  have ne : ∀ (a b : SemLoc sig), a ≠ b → ((thr d L, a) : GSem nD τ sig) ≠ (thr d L, b) := fun a b h e => h (congrArg Prod.snd e)
  have own : ∀ a : SemLoc sig, a.isScoped .scVector = true → ((thr d L, a) : GSem nD τ sig) ∈ ownCells (thr d L) :=
    fun a h => mem_ownCells.mpr ⟨rfl, h⟩
  unfold SparseCore.Cfg.ownSems0
  rw [SparseCore.bigSep_erase' (own (.dma cc0_scratch2.sem) (by decide)),
    SparseCore.bigSep_erase' (Finset.mem_erase.mpr ⟨ne (.dma cc0_scoped0.sem) _ (by decide), own _ (by decide)⟩),
    SparseCore.bigSep_erase' (Finset.mem_erase.mpr ⟨ne (.dma cc0_scoped1.sem) _ (by decide), Finset.mem_erase.mpr ⟨ne _ _ (by decide), own _ (by decide)⟩⟩),
    SparseCore.bigSep_erase' (Finset.mem_erase.mpr ⟨ne (.dma cc0_scoped2.sem) _ (by decide), Finset.mem_erase.mpr ⟨ne _ _ (by decide),
      Finset.mem_erase.mpr ⟨ne _ _ (by decide), own _ (by decide)⟩⟩⟩)]

/-- The task's own buffers: its index scratch, its row scratch, and the rest. -/
theorem ownBufs_V (L : grid0.Coords) :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Between trips: the table's share, the index scratch at its list, the row scratch at anything, the output's left part
    filled as far as the trips made, the two semaphores the loop uses at zero. -/
def inv (L : grid0.Coords) (O : CellTallies nD τ sig (HIx 1)) (W : Waits sig (HIx 1)) (k : Nat) (_ : BitVec 32) : sProp 𝕄 :=
  iprop(Transfers.MayWaits (thr d L) (none : HIx 1) O
    ∗ ((tV).view.loc (thr d L) ↦{rd (wk L)} fT)
    ∗ ((sV).view.loc (thr d L) ↦{fullShare} lst fI L)
    ∗ (∃ f, (rV).view.loc (thr d L) ↦{fullShare} f)
    ∗ ((oV).view.loc (thr d L) ↦[left L]{fullShare} filled fI fX fT fO L k)
    ∗ semVal (thr d L, SemLoc.dma cc0_scratch2.sem) 0
    ∗ semVal (thr d L, SemLoc.dma cc0_scoped2.sem) 0
    ∗ ∃ W', ⌜∀ p ∈ W', p ∈ W ∨ p.2 = none⌝ ∗ owes (thr d L) O W')

variable [FloatOps F]

/-- The task on vector subcore `(L 0, L 1)` of device `d`. -/
theorem tile_body (hI : ∀ j, (fI j : BitVec 32).toNat < 100000) (L : grid0.Coords) (hF : (K (F := F)).Facts)
    (O : CellTallies nD τ sig (HIx 1)) (W : Waits sig (HIx 1)) (hO : ∀ g, O g none = 0) :
    iprop(levAts (K (F := F)).L (K (F := F)).lev ∗ emp ∗ hand fI fX fT d (wk L) fO
        ∗ scopedBufs (thr d L) ∗ scopedSems0 (thr d L) ∗ owes (thr d L) O W)
      ⊢ wp frame (wpE (defs₀ (F := F)) 𝒱₀ (thr d L) none) Set.univ
          (cc0_k L iV (Memref.isWhole_whole _) xV (Memref.isWhole_whole _) tV (Memref.isWhole_whole _) oV (Memref.isWhole_whole _)
            sV (Memref.isWhole_whole _) rV (Memref.isWhole_whole _) cc0_scratch2 cc0_scoped0 cc0_scoped1 cc0_scoped2)
          fun _ => iprop(hand fI fX fT d (wk L) (want fI fX fT)
            ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ht, Ho⟩, ⟨⟨%fs, Hs⟩, ⟨%fr, Hr⟩, Hbufs⟩, ⟨HsemG, HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (show (iLoc d ↦{rd (wk L)} fI : sProp 𝕄) ⊢ (iV).view.loc (thr d L) ↦{rd (wk L)} fI from Entails.rfl) $$ Hi
  ihave Hx := (show (xLoc d ↦{rd (wk L)} fX : sProp 𝕄) ⊢ (xV).view.loc (thr d L) ↦{rd (wk L)} fX from Entails.rfl) $$ Hx
  ihave Ht := (show (tLoc d ↦{rd (wk L)} fT : sProp 𝕄) ⊢ (tV).view.loc (thr d L) ↦{rd (wk L)} fT from Entails.rfl) $$ Ht
  ihave Hs := (show ((thr d L).loc cc0_scratch0 ↦{fullShare} fs : sProp 𝕄) ⊢ (sV).view.loc (thr d L) ↦{fullShare} fs from Entails.rfl) $$ Hs
  ihave Hr := (show ((thr d L).loc cc0_scratch1 ↦{fullShare} fr : sProp 𝕄) ⊢ (rV).view.loc (thr d L) ↦{fullShare} fr from Entails.rfl) $$ Hr
  ihave Ho := (show (oLoc d ↦[blk (wk L)]{fullShare} fO : sProp 𝕄)
      ⊢ iprop(((featK L).view.loc (thr d L) ↦[(featK L).view.set]{fullShare} fO) ∗ ((oV).view.loc (thr d L) ↦[left L]{fullShare} fO)) from
    (pointsTo_split_subset (featK_subset L)).1) $$ Ho
  icases Ho with ⟨Hf, Ho⟩
  sl_exec
  have hs : View.write (Elt F) (sV).view fs (tile_body.sl.dma0_1 fI L) Finset.univ = lst fI L := View.write_whole_univ _ _ _
  rw [hs]
  have hf : ∀ x ∈ (featK L).view.set,
      (featK L).view.writes (Elt F) (featK L).view.junk [⟨Rect.whole S6400x64, tile_body.sl.dma0 fX L⟩] x = want fI fX fT x := fun x hx =>
    (congrFun (View.write_univ_eq_writes_whole (featK L).view (featK L).view.junk [] _).symm x).trans (feat_value fI fX fT L _ x hx)
  ihave Hf := (Entails.of_eq (pointsTo_congr (q := fullShare) (ℓ := (featK L).view.loc (thr d L)) hf)) $$ Hf
  ihave Ho := (Entails.of_eq (pointsTo_congr (q := fullShare) (ℓ := (oV).view.loc (thr d L)) fun x hx => (filled_zero fI fX fT fO L x hx).symm)) $$ Ho
  sl_for (inv fI fX fT fO d L O W) $$ [Hmw Ht Hs Hr Ho HsemG HsemC HO]
  case region =>
    intro k _
    unfold inv
    iintro ⟨#Hmw, Ht, Hs, ⟨%f, Hr⟩, Ho, HsemG, HsemC, %W', %hW', HO⟩
    have hin := list_inRange fI hI L k
    have hN : ∀ h : S100000x128.Gathers 0 S128x128, ∑ j, ((rV).slice (S128x128.rowRect h.axis' j) (S128x128.stride_rowRect h.axis' j)).view.dmaCredit
        = (rV).view.dmaCredit := by decide
    ihave Ho := (show ((oV).view.loc (thr d L) ↦[left L]{fullShare} filled fI fX fT fO L k.val : sProp 𝕄)
        ⊢ iprop(((chunkK L k).view.loc (thr d L) ↦[(chunkK L k).view.set]{fullShare} filled fI fX fT fO L k.val)
          ∗ ((oV).view.loc (thr d L) ↦[left L \ (chunkK L k).view.set]{fullShare} filled fI fX fT fO L k.val)) from
      (pointsTo_split_subset (chunkK_subset L k)).1) $$ Ho
    icases Ho with ⟨Hc, Ho⟩
    -- the gather by the chunk's list, its wait, the rows' copy to their place in the output and its wait
    sl_exec (disch := exact View.amount_pos _ _ (show 0 < S128x128.numel by decide))
    have hw : ∀ (y : S128x128.Idx) (x : S204800x192.Idx), (x 0).val = 6400 * (wk L).val + 128 * k.val + (y 0).val → (x 1).val = (y 1).val →
        tile_body.sl.dma0_2 fI fT d L k f hin y = want fI fX fT x := by
      intro y x h0 h1
      refine Eq.trans ?_ (gathered_apply fI fX fT hI L k rfl hin y x h0 h1)
      exact congrFun (View.read_writes_whole (rV).view f _) y
    have hc : ∀ x ∈ (chunkK L k).view.set,
        (chunkK L k).view.writes (Elt F) (filled fI fX fT fO L k.val) [⟨Rect.whole S128x128, tile_body.sl.dma0_2 fI fT d L k f hin⟩] x
          = filled fI fX fT fO L (k.val + 1) x := fun x hx =>
      (congrFun (View.write_univ_eq_writes_whole (chunkK L k).view (filled fI fX fT fO L k.val) [] _).symm x).trans
        (chunk_value fI fX fT fO hI L k _ hw _ x hx)
    ihave Hc := (Entails.of_eq (pointsTo_congr (q := fullShare) (ℓ := (chunkK L k).view.loc (thr d L)) hc)) $$ Hc
    ihave Ho := (Entails.of_eq (pointsTo_congr (q := fullShare) (ℓ := (oV).view.loc (thr d L)) fun x hx => filled_off fI fX fT fO L k x hx)) $$ Ho
    ihave Ho := (show iprop(((chunkK L k).view.loc (thr d L) ↦[(chunkK L k).view.set]{fullShare} filled fI fX fT fO L (k.val + 1))
          ∗ ((oV).view.loc (thr d L) ↦[left L \ (chunkK L k).view.set]{fullShare} filled fI fX fT fO L (k.val + 1)))
        ⊢ ((oV).view.loc (thr d L) ↦[left L]{fullShare} filled fI fX fT fO L (k.val + 1) : sProp 𝕄) from
      (pointsTo_split_subset (chunkK_subset L k)).2) $$ [Hc Ho]
    · isplitl [Hc] <;> iassumption
    sl_step
    isplitl [Hmw]; · iexact Hmw
    isplitl [Ht]; · iexact Ht
    isplitl [Hs]; · iexact Hs
    isplitl [Hr]; · iexists _; iexact Hr
    isplitl [Ho]; · iexact Ho
    isplitl [HsemG]; · iexact HsemG
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Ht]; · iexact Ht
    isplitl [Hs]; · iexact Hs
    isplitl [Hr]; · iexists _; iexact Hr
    isplitl [Ho]; · iexact Ho
    isplitl [HsemG]; · iexact HsemG
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %_ HI
  unfold inv
  icases HI with ⟨-, Ht, Hs, ⟨%f, Hr⟩, Ho, HsemG, HsemC, %W', %hW', HO⟩
  ihave Ho := (Entails.of_eq (pointsTo_congr (q := fullShare) (ℓ := (oV).view.loc (thr d L)) fun x hx => filled_all fI fX fT fO L x hx)) $$ Ho
  ihave Ho := (show iprop(((featK L).view.loc (thr d L) ↦[(featK L).view.set]{fullShare} want fI fX fT)
        ∗ ((oV).view.loc (thr d L) ↦[left L]{fullShare} want fI fX fT))
      ⊢ (oLoc d ↦[blk (wk L)]{fullShare} want fI fX fT : sProp 𝕄) from (pointsTo_split_subset (featK_subset L)).2) $$ [Hf Ho]
  · isplitl [Hf] <;> iassumption
  sl_exec
  sl_step
  isplitl [Hi Hx Ht Ho]
  · isplitl [Hi]; · iexact Hi
    isplitl [Hx]; · iexact Hx
    isplitl [Ht]; · iexact Ht
    iexact Ho
  isplitl [Hs Hr Hbufs]
  · isplitl [Hs]; · iexists _; iexact Hs
    isplitl [Hr]; · iexists _; iexact Hr
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists W'; isplitr
  · ipureintro; exact hW'
  · iexact HO

end Tile

end Cert.Proof.LookupIdeal

end
-- ==== Proof.LaunchIdeal.lean ====
/-
  The idealized embedding lookup's launch: the arrays dealt to the thirty-two tasks and gathered back, @main with its three reshapes
  around the one call, and the program's run with the result it leaves.
-/
module

public import proofs.«01_k».proof.Proof.TileIdeal

@[expose] public section

noncomputable section

namespace Cert.Proof.LookupIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S204800 EltTy.i32)
local notation "xV" => (Memref.whole Cert.KernelIdeal.main_v1_scv : Memref Cert.KernelIdeal.sig Kind.scVector Space.hbm Cert.KernelIdeal.S204800x64 EltTy.f32)
local notation "tV" => (Memref.whole Cert.KernelIdeal.main_arg2_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S204800x192 EltTy.f32)
local notation "sV" => (Memref.whole Cert.KernelIdeal.cc0_scratch0 : Memref Cert.KernelIdeal.sig Kind.scVector Space.vmem Cert.KernelIdeal.S6400 EltTy.i32)
local notation "rV" => (Memref.whole Cert.KernelIdeal.cc0_scratch1 : Memref Cert.KernelIdeal.sig Kind.scVector Space.vmem Cert.KernelIdeal.S128x128 EltTy.f32)

variable (m : (ℓ : Loc nD τ sig) → Buf (Elt F) ℓ) (ρ : Dev nD → PrngReg)

/-! ## What the arrays hold -/

/-- The indices and the dense features as the caller passes them, and the result. -/
abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3

/-- The flat index array and the flat features, as the call reads them. -/
def fI (d : Dev nD) : S204800.Idx → Elt F .i32 := shapeCast S204800 (m (aLoc d)) shapeCasts_S1024x200_S204800
def fX (d : Dev nD) : S204800x64.Idx → Elt F .f32 := shapeCast S204800x64 (m (bLoc d)) shapeCasts_S1024x200x64_S204800x64
/-- The flat output the call leaves, and the result in the caller's shape. -/
def flat (d : Dev nD) : S204800x192.Idx → Elt F .f32 := want (fI m d) (fX m d) (m (tLoc d))
def res (d : Dev nD) : S1024x200x192.Idx → Elt F .f32 := shapeCast S1024x200x192 (flat m d) shapeCasts_S204800x192_S1024x200x192

/-- What the proof asks of the launch memory: every index names a row of the table. -/
def PreOK : Prop := ∀ (d : Dev nD) (j : S1024x200.Idx), (m (aLoc d) j : BitVec 32).toNat < 100000

theorem fI_inRange (hpre : PreOK m) (d : Dev nD) (j : S204800.Idx) : (fI m d j : BitVec 32).toNat < 100000 := hpre d _

/-! ## Dealing the arrays -/

/-- The worker that subcore `i` of SparseCore `c` is. -/
def wkOf (c : Fin 2) (i : Fin 16) : Fin 32 := ⟨2 * i.val + c.val, by omega⟩

theorem blk_disjoint : ∀ i ∈ (Finset.univ : Finset (Fin 32)), ∀ j ∈ (Finset.univ : Finset (Fin 32)), i ≠ j → Disjoint (blk i) (blk j) := by
  intro i _ j _ h
  refine Finset.disjoint_left.mpr fun x hi hj => h (Fin.ext ?_)
  exact (Finset.mem_filter.mp hi).2.symm.trans (Finset.mem_filter.mp hj).2

theorem blk_cover : (Finset.univ : Finset (Fin 32)).biUnion blk = Finset.univ := by
  refine Finset.eq_univ_iff_forall.mpr fun x => ?_
  have h : (x 0).val < 204800 := (x 0).isLt
  exact Finset.mem_biUnion.mpr ⟨⟨(x 0).val / 6400, by omega⟩, Finset.mem_univ _, Finset.mem_filter.mpr ⟨Finset.mem_univ _, rfl⟩⟩

/-- The output held whole is its thirty-two blocks of rows. -/
theorem out_blocks (d : Dev nD) (f : S204800x192.Idx → Elt F .f32) :
    (oLoc d ↦{fullShare} f : sProp 𝕄) = bigSep Finset.univ fun w : Fin 32 => oLoc d ↦[blk w]{fullShare} f := by
  rw [← pointsTo_biUnion Finset.univ (ℓ := oLoc d) blk blk_disjoint, blk_cover]

/-- Workers counted by SparseCore, then by subcore. -/
theorem workers (Φ : Fin 32 → sProp 𝕄) :
    bigSep Finset.univ Φ = bigSep Finset.univ fun c : Fin 2 => bigSep Finset.univ fun i : Fin 16 => Φ (wkOf c i) := by
  rw [bigSep_univ_equiv (finProdFinEquiv : Fin 16 × Fin 2 ≃ Fin 32) Φ, bigSep_univ_prod, bigSep_univ_comm]
  refine bigSep_congr fun c _ => bigSep_congr fun i _ => congrArg Φ (Fin.ext ?_)
  show c.val + 2 * i.val = 2 * i.val + c.val
  omega

set_option maxRecDepth 16384 in
/-- The four arrays held whole are what the thirty-two workers are handed. -/
theorem deal (d : Dev nD) (gI : S204800.Idx → Elt F .i32) (gX : S204800x64.Idx → Elt F .f32) (gT : S100000x128.Idx → Elt F .f32)
    (f : S204800x192.Idx → Elt F .f32) :
    (iprop((iLoc d ↦{fullShare} gI) ∗ (xLoc d ↦{fullShare} gX) ∗ (tLoc d ↦{fullShare} gT) ∗ (oLoc d ↦{fullShare} f)) : sProp 𝕄)
      = bigSep Finset.univ fun c : Fin 2 => bigSep Finset.univ fun i : Fin 16 => hand gI gX gT d (wkOf c i) f := by
  rw [← workers (fun w => hand gI gX gT d w f), bigSep_sep', bigSep_sep', bigSep_sep', ← out_blocks]
  have hi : (iLoc d ↦{fullShare} gI : sProp 𝕄) = bigSep Finset.univ fun w : Fin 32 => iLoc d ↦{rd w} gI :=
    pointsTo_leaves (ℓ := iLoc d) Finset.univ gI 5 fullShare
  have hx : (xLoc d ↦{fullShare} gX : sProp 𝕄) = bigSep Finset.univ fun w : Fin 32 => xLoc d ↦{rd w} gX :=
    pointsTo_leaves (ℓ := xLoc d) Finset.univ gX 5 fullShare
  have ht : (tLoc d ↦{fullShare} gT : sProp 𝕄) = bigSep Finset.univ fun w : Fin 32 => tLoc d ↦{rd w} gT :=
    pointsTo_leaves (ℓ := tLoc d) Finset.univ gT 5 fullShare
  rw [← hi, ← hx, ← ht]

/-! ## What the handshakes carry -/

/-- Subcore `i` of SparseCore `c`, handed its part with the output at `f`. -/
abbrev part (d : Dev nD) (c : Fin 2) (i : Fin 16) (f : S204800x192.Idx → Elt F .f32) : sProp 𝕄 :=
  hand (fI m d) (fX m d) (m (tLoc d)) d (wkOf c i) f

/-- A SparseCore is handed its sixteen subcores' parts with the output as it was, and hands them back with it written. -/
def P : (K (F := F)).Pay (nD := nD) (Val := Elt F) (Name := ℕ) (U := UU) where
  st := fun q d c => match q with | 0 => bigSep Finset.univ fun i : Fin 16 => part m d (Fin.cast nCore_zero c) i (m (oLoc d))
  dn := fun q d c => match q with | 0 => bigSep Finset.univ fun i : Fin 16 => part m d (Fin.cast nCore_zero c) i (flat m d)
  go := fun q d c i => match q with | 0 => part m d (Fin.cast nCore_zero c) (Fin.cast nSub_zero i) (m (oLoc d))
  td := fun q d c i => match q with | 0 => part m d (Fin.cast nCore_zero c) (Fin.cast nSub_zero i) (flat m d)
  x := fun _ _ => iprop(emp)

instance P_storable : (P (F := F) m).IsStorable where
  st q d c := match q with
    | 0 => (inferInstance : BI.Storable (upEmb : UEmb _ 𝕄) (bigSep Finset.univ fun i : Fin 16 => part m d (Fin.cast nCore_zero c) i (m (oLoc d))))
  dn q d c := match q with
    | 0 => (inferInstance : BI.Storable (upEmb : UEmb _ 𝕄) (bigSep Finset.univ fun i : Fin 16 => part m d (Fin.cast nCore_zero c) i (flat m d)))
  go q d c i := match q with
    | 0 => (inferInstance : BI.Storable (upEmb : UEmb _ 𝕄) (part m d (Fin.cast nCore_zero c) (Fin.cast nSub_zero i) (m (oLoc d))))
  td q d c i := match q with
    | 0 => (inferInstance : BI.Storable (upEmb : UEmb _ 𝕄) (part m d (Fin.cast nCore_zero c) (Fin.cast nSub_zero i) (flat m d)))

/-- The split is the parts themselves. -/
theorem vecSplit : (K (F := F)).VecSplit' (P m) 0 := by
  intro d c
  show (bigSep Finset.univ fun i : Fin 16 => part m d (Fin.cast nCore_zero c) i (m (oLoc d)))
    ⊢ |={Set.univ}=> iprop((bigSep Finset.univ fun i : Fin 16 => part m d (Fin.cast nCore_zero c) i (m (oLoc d)))
        ∗ ((bigSep Finset.univ fun i : Fin 16 => part m d (Fin.cast nCore_zero c) i (flat m d))
          -∗ bigSep Finset.univ fun i : Fin 16 => part m d (Fin.cast nCore_zero c) i (flat m d)))
  iintro H; imodintro
  isplitl [H]; · iexact H
  iintro H; iexact H

/-! ## The tasks' obligation -/

section Run

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          iV (Memref.isWhole_whole _) xV (Memref.isWhole_whole _) tV (Memref.isWhole_whole _) oV (Memref.isWhole_whole _)
          sV (Memref.isWhole_whole _) rV (Memref.isWhole_whole _) cc0_scratch2 cc0_scoped0 cc0_scoped1 cc0_scoped2) ⟨⟩ c s := rfl

omit [FloatOps F] in
/-- Every wait a task records is its own; the obligation also allows the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (fI m d) (fX m d) (m (tLoc d)) (m (oLoc d)) d (fI_inRange m hpre d) (coordsV ⟨_, hci.1⟩ ⟨_, hci.2⟩) hF O W hO).trans
    (wp_mono frame _ _ fun _ => obl_post)

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev b' : DevRef τ sig := Proc.devRef .tc (main_arg1 : Ref sig .tc)
abbrev i' : DevRef τ sig := Proc.devRef .tc (main_v0 : Ref sig .tc)
abbrev x' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The three reshapes: of the indices, of the features, of the output. -/
abbrev opI : HloOp τ sig (Elt F) := StableHlo.reshape main_arg0 main_v0 (rfl : (.i32 : EltTy) = .i32) shapeCasts_S1024x200_S204800
abbrev opX : HloOp τ sig (Elt F) := StableHlo.reshape main_arg1 main_v1 (rfl : (.f32 : EltTy) = .f32) shapeCasts_S1024x200x64_S204800x64
abbrev opR : HloOp τ sig (Elt F) := StableHlo.reshape main_v2 main_v3 (rfl : (.f32 : EltTy) = .f32) shapeCasts_S204800x192_S1024x200x192

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (tLoc d ↦{fullShare} W main_arg2)
      ∗ (iLoc d ↦{fullShare} W main_v0) ∗ (xLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
/-- Two buffers held at a valuation. -/
theorem held_two (d : Dev nD) {a b : DevRef τ sig} (h : a ≠ b) (W : Valuation τ sig (Elt F)) :
    (held (T d) {a, b} W : sProp 𝕄) = iprop((((d, a) : Loc nD τ sig) ↦{fullShare} W a) ∗ ((d, b) : Loc nD τ sig) ↦{fullShare} W b) := by
  unfold held
  rw [SparseCore.bigSep_insert' (fun e => h (Finset.mem_singleton.mp e)), bigSep_singleton]

/-- The launch valuation; and, after the call, the output at what the tasks left. -/
def V0 (d : Dev nD) : Valuation τ sig (Elt F) := fun b => m (d, b)
def V1 (d : Dev nD) : Valuation τ sig (Elt F) := Function.update (V0 m d) o' (flat m d)

theorem V1_o (d : Dev nD) : V1 m d o' = flat m d := Function.update_self _ _ _
theorem V1_r (d : Dev nD) : V1 m d r' = m (rLoc d) := Function.update_of_ne (show r' ≠ o' by decide) _ _

theorem after_I (d : Dev nD) : (held (T d) {a', i'} ((opI (F := F)).result (V0 m d)) : sProp 𝕄)
    = iprop((aLoc d ↦{fullShare} m (aLoc d)) ∗ iLoc d ↦{fullShare} fI m d) := by
  rw [held_two d (by decide), (opI (F := F)).result_of_not_mem (V0 m d) (b := a') (show a' ∉ ({i'} : Finset (DevRef τ sig)) by decide)]
  rw [StableHlo.reshape_result]
  rfl
theorem after_X (d : Dev nD) : (held (T d) {b', x'} ((opX (F := F)).result (V0 m d)) : sProp 𝕄)
    = iprop((bLoc d ↦{fullShare} m (bLoc d)) ∗ xLoc d ↦{fullShare} fX m d) := by
  rw [held_two d (by decide), (opX (F := F)).result_of_not_mem (V0 m d) (b := b') (show b' ∉ ({x'} : Finset (DevRef τ sig)) by decide)]
  rw [StableHlo.reshape_result]
  rfl
theorem after_R (d : Dev nD) : (held (T d) {o', r'} ((opR (F := F)).result (V1 m d)) : sProp 𝕄)
    = iprop((oLoc d ↦{fullShare} flat m d) ∗ rLoc d ↦{fullShare} res m d) := by
  rw [held_two d (by decide), (opR (F := F)).result_of_not_mem (V1 m d) (b := o') (show o' ∉ ({r'} : Finset (DevRef τ sig)) by decide)]
  rw [StableHlo.reshape_result]
  rw [V1_o]
  rfl

theorem st0_eq (d : Dev nD) : (bigSep Finset.univ fun c : Fin ((K (F := F)).nCore 0) => (P m).st 0 d c)
    = iprop((iLoc d ↦{fullShare} fI m d) ∗ (xLoc d ↦{fullShare} fX m d) ∗ (tLoc d ↦{fullShare} m (tLoc d)) ∗ (oLoc d ↦{fullShare} m (oLoc d))) :=
  (deal d (fI m d) (fX m d) (m (tLoc d)) (m (oLoc d))).symm
theorem dn0_eq (d : Dev nD) : (bigSep Finset.univ fun c : Fin ((K (F := F)).nCore 0) => (P m).dn 0 d c)
    = iprop((iLoc d ↦{fullShare} fI m d) ∗ (xLoc d ↦{fullShare} fX m d) ∗ (tLoc d ↦{fullShare} m (tLoc d)) ∗ (oLoc d ↦{fullShare} flat m d)) :=
  (deal d (fI m d) (fX m d) (m (tLoc d)) (flat m d)).symm

/-- What @main leaves the claims: the arguments as they were, and the result. -/
abbrev FIN (d : Dev nD) : sProp 𝕄 :=
  iprop((aLoc d ↦{fullShare} m (aLoc d)) ∗ (bLoc d ↦{fullShare} m (bLoc d)) ∗ (tLoc d ↦{fullShare} m (tLoc d)) ∗ rLoc d ↦{fullShare} res m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hc, Ht, Hi, Hx, Ho, Hr⟩, Hts, -⟩, -⟩
  iapply (wp_hlo_within 𝒱 (SparseCore.T d) none Set.univ (op := opI) (S := {a', i'}) (Finset.Subset.refl _) (V := V0 m d)) $$ [Hb Ha Hi]
  · isplitl [Hb]; · iexact Hb
    rw [held_two d (by decide)]
    isplitl [Ha]; · iexact Ha
    iexact Hi
  iintro ⟨Hb, Hh⟩
  ihave Hh := (Entails.of_eq (after_I m d)) $$ Hh
  icases Hh with ⟨Ha, Hi⟩
  rw [wp_ret]; imodintro
  iapply (wp_hlo_within 𝒱 (SparseCore.T d) none Set.univ (op := opX) (S := {b', x'}) (Finset.Subset.refl _) (V := V0 m d)) $$ [Hb Hc Hx]
  · isplitl [Hb]; · iexact Hb
    rw [held_two d (by decide)]
    isplitl [Hc]; · iexact Hc
    iexact Hx
  iintro ⟨Hb, Hh⟩
  ihave Hh := (Entails.of_eq (after_X m d)) $$ Hh
  icases Hh with ⟨Hc, Hx⟩
  rw [wp_ret]; imodintro
  -- the call: the four arrays out to the tasks, and back with the output written
  iapply ((K (F := F)).wp_run (D (F := F)) 𝒱 (EH := EH) (P := P m) κ d 0) $$ [Hst Hi Hx Ht Ho Ha Hc Hr Hb Hts]
  isplitr; · iexact Hctx
  isplitl [Hst]; · iexact Hst
  isplitl [Hi Hx Ht Ho]
  · rw [st0_eq]
    isplitl [Hi]; · iexact Hi
    isplitl [Hx]; · iexact Hx
    isplitl [Ht]; · iexact Ht
    iexact Ho
  iintro ⟨Hst, Hdn⟩
  ihave Hdn := (Entails.of_eq (dn0_eq m d)) $$ Hdn
  icases Hdn with ⟨-, -, Ht, Ho⟩
  iapply (wp_hlo_within 𝒱 (SparseCore.T d) none Set.univ (op := opR) (S := {o', r'}) (Finset.Subset.refl _) (V := V1 m d)) $$ [Hb Ho Hr]
  · isplitl [Hb]; · iexact Hb
    rw [held_two d (by decide), V1_o, V1_r]
    isplitl [Ho]; · iexact Ho
    iexact Hr
  iintro ⟨Hb, Hh⟩
  ihave Hh := (Entails.of_eq (after_R m d)) $$ Hh
  icases Hh with ⟨-, Hr⟩
  rw [wp_ret]; imodintro; imodintro
  isplitl [Hst]; · iexact Hst
  isplitr [Hb Hts]
  · isplitl [Ha]; · iexact Ha
    isplitl [Hc]; · iexact Hc
    isplitl [Ht]; · iexact Ht
    iexact Hr
  isplitl [Hb] <;> iassumption

/-! ## The program's run -/

def fq (d : Dev nD) (s' : Phys nD τ sig (Elt F)) : Prop :=
  s'.mem.mem (aLoc d) = m (aLoc d) ∧ s'.mem.mem (bLoc d) = m (bLoc d) ∧ s'.mem.mem (tLoc d) = m (tLoc d) ∧ s'.mem.mem (rLoc d) = res m d

set_option maxRecDepth 16384 in
theorem hfin (d : Dev nD) (s' : Phys nD τ sig (Elt F)) : iprop(FIN m d ∗ SI s') ⊢ (⌜fq m d s'⌝ : sProp 𝕄) := by
  iintro ⟨⟨Ha, Hc, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hc]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (SI_pointsTo_agree (st := s') (ℓ := rLoc d) (I := Finset.univ) (q := fullShare) (f := res m d)) $$ [HSI Hr]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

/-- At every end: the arguments as they were, the result the lookup beside the features, every semaphore at zero. -/
def QC : PUnit × MemSt nD τ sig (Elt F) → Prop := fun r =>
  (∀ c : Dev nD, r.2.mem (aLoc c) = m (aLoc c) ∧ r.2.mem (bLoc c) = m (bLoc c) ∧ r.2.mem (tLoc c) = m (tLoc c) ∧ r.2.mem (rLoc c) = res m c)
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.Proof.LookupIdeal

end
-- ==== Proof.Ref.lean ====
/-
  The reference's value: what the plain program leaves at each element, and its run with that value.
-/
module

public import proofs.«01_k».proof.Defs
public import proofs.«01_k».proof.Proof.Gen.ReferenceIdeal
public import proofs.«01_k».proof.Proof.Gen.ReferenceIdeal.Run
public import Idealize.ShloMosaic.Lib.Pipeline.Value
public import Idealize.ShloMosaic.Lib.ReduceAll
public import Idealize.ShloMosaic.Lib.ValueIdxCore
public import Idealize.ShloMosaic.Lib.Tactic

@[expose] public section

noncomputable section

namespace Cert.Proof.Ref

open Cert.ReferenceIdeal Cert.ReferenceIdeal.Gen
open Idealize.ShloMosaic Idealize.SL.Sem

variable {F : FTy → Type} [FloatOps F]

/-- The lookup element by element: below column 128 the table's row that the index names, from column 128 on the dense
    features. (The remainder makes the definition total; an index in range is its own remainder.) -/
def looked (a : S1024x200.Idx → Elt F .i32) (b : S1024x200x64.Idx → Elt F .f32) (t : S100000x128.Idx → Elt F .f32) :
    S1024x200x192.Idx → Elt F .f32 := fun j =>
  if h : (j 2).val < 128 then
    t (ValueIdx.ix2 ⟨(a (ValueIdx.ix2 (j 0) (j 1)) : BitVec 32).toNat % 100000, Nat.mod_lt _ (by decide)⟩ ⟨(j 2).val, h⟩)
  else b (ValueIdx.ix3 (j 0) (j 1) ⟨(j 2).val - 128, by have h2 : (j 2).val < 192 := (j 2).isLt; show _ < 64; omega⟩)

/-- The index array the reference looks up with: a negative index counted from the table's end, one trailing unit axis. -/
def wrapped (a : S1024x200.Idx → BitVec 32) : S1024x200x1.Idx → BitVec 32 :=
  broadcastInDim S1024x200x1 ![0, 1] bcast_S1024x200_S1024x200x1_0_1
    (select (cmpi .slt a (broadcastInDim S1024x200 ![] bcast_S_S1024x200 (constantI S_ 32 0#32)))
      (addi a (broadcastInDim S1024x200 ![] bcast_S_S1024x200 (constantI S_ 32 100000#32))) a)

/-- Whether a wrapped index names a row of the table. -/
def valid (a : S1024x200.Idx → BitVec 32) : S1024x200x1.Idx → BitVec 1 :=
  andi (cmpi .sge (wrapped a) (broadcastInDim S1024x200x1 ![] bcast_S_S1024x200x1 (constantI S_ 32 0#32)))
    (cmpi .sle (wrapped a) (broadcastInDim S1024x200x1 ![0, 1, 2] bcast_S1x1x1_S1024x200x1_0_1_2
      (broadcastInDim S1x1x1 ![2] bcast_S1_S1x1x1_2 (constantI S1 32 99999#32))))

/-- The rows the reference takes: the looked-up row where the index is valid, the fill value elsewhere. -/
def taken (a : S1024x200.Idx → BitVec 32) (t : S100000x128.Idx → Elt F .f32) : S1024x200x128.Idx → Elt F .f32 :=
  select (broadcastInDim S1024x200x128 ![0, 1] bcast_S1024x200_S1024x200x128_0_1
      (Host.reduce IntOp.andi (valid a) (constantI S_ 1 1#1) reducesTo_S1024x200x1_S1024x200_d2 h_S_))
    (Host.gather gather_S100000x128_S1024x200x1_S1024x200x128_2_0_n_n_0_2_1128 t (wrapped a))
    (broadcastInDim S1024x200x128 ![] bcast_S_S1024x200x128 (constant S_ .f32 0x7FC00000#32))

/-- A word below 100000 is the same number read signed. -/
theorem signed_of_small (v : BitVec 32) (h : v.toNat < 100000) : v.toInt = (v.toNat : ℤ) := by
  rw [BitVec.toInt_eq_toNat_cond]
  split <;> omega

/-- In range, wrapping leaves the index alone. -/
theorem wrapped_apply (a : S1024x200.Idx → BitVec 32) (ha : ∀ j, (a j).toNat < 100000) (y : S1024x200x1.Idx) :
    wrapped a y = a (ValueIdx.ix2 (y 0) (y 1)) := by
  have e : ∀ k : S1024x200.Idx, IntOp.cmpi .slt (a k) 0#32 = 0#1 := fun k =>
    ValueIdx.eq_zero_of_ne_one fun h => by
      have h' := IntOp.cmpi_slt.1 h
      rw [signed_of_small _ (ha k)] at h'
      have : (0#32 : BitVec 32).toInt = 0 := by decide
      omega
  show Scalar.select (IntOp.cmpi .slt (a _) 0#32) (_ : BitVec 32) (a _) = _
  rw [e, ValueIdx.select_zero]
  congr 1
  funext b
  match b with
  | ⟨0, _⟩ => rfl
  | ⟨1, _⟩ => rfl

/-- In range, every index is valid. -/
theorem valid_apply (a : S1024x200.Idx → BitVec 32) (ha : ∀ j, (a j).toNat < 100000) (y : S1024x200x1.Idx) : valid a y = 1#1 := by
  have hs := signed_of_small _ (ha (ValueIdx.ix2 (y 0) (y 1)))
  have hb := ha (ValueIdx.ix2 (y 0) (y 1))
  have h1 : IntOp.cmpi .sge (wrapped a y) 0#32 = 1#1 := by
    rw [wrapped_apply a ha]
    refine IntOp.cmpi_sge.2 ?_
    rw [hs]
    have : (0#32 : BitVec 32).toInt = 0 := by decide
    omega
  have h2 : IntOp.cmpi .sle (wrapped a y) 99999#32 = 1#1 := by
    rw [wrapped_apply a ha]
    refine IntOp.cmpi_sle.2 ?_
    rw [hs]
    have : (99999#32 : BitVec 32).toInt = 99999 := by decide
    omega
  show IntOp.andi (IntOp.cmpi .sge (wrapped a y) 0#32) (IntOp.cmpi .sle (wrapped a y) 99999#32) = 1#1
  rw [h1, h2]
  rfl

/-- The gather read at an element: the table at the row its index names, clamped to the last, and at the element's column. -/
theorem gather_row (t : S100000x128.Idx → Elt F .f32) (ix : S1024x200x1.Idx → BitVec 32) (y : S1024x200x128.Idx) :
    Host.gather gather_S100000x128_S1024x200x1_S1024x200x128_2_0_n_n_0_2_1128 t ix y
      = t (ValueIdx.ix2 ⟨min (ix (ValueIdx.ix3 (y 0) (y 1) 0)).toInt.toNat 99999, by omega⟩ (y 2)) := by
  set D := gather_S100000x128_S1024x200x1_S1024x200x128_2_0_n_n_0_2_1128
  show t (D.operandIdx y ix) = _
  congr 1
  funext a
  apply Fin.ext
  show D.start y ix a + D.batchCoord y a + D.offCoord y a = _
  rw [D.batchCoord_eq_zero y a List.not_mem_nil]
  have axes : a = 0 ∨ a = 1 := by
    match a with
    | ⟨0, _⟩ => exact Or.inl rfl
    | ⟨1, _⟩ => exact Or.inr rfl
  obtain rfl | rfl := axes
  · have m0 : (0 : Fin S100000x128.rank) ∈ D.startIndexMap := List.mem_singleton.mpr rfl
    have hs : D.siIdx y ⟨D.startIndexMap.idxOf (0 : Fin S100000x128.rank), List.idxOf_lt_length_iff.2 m0⟩
        = ValueIdx.ix3 (y 0) (y 1) 0 := by
      funext b
      match b with
      | ⟨0, _⟩ => rfl
      | ⟨1, _⟩ => rfl
      | ⟨2, _⟩ => rfl
    have e : D.start y ix 0 = min (ix (ValueIdx.ix3 (y 0) (y 1) 0)).toInt.toNat 99999 := by
      unfold GatherDims.start
      rw [dif_pos m0, hs]
      rfl
    rw [D.offCoord_eq_zero y _ fun h => ((D.mem_sKept _).mp h).1 (List.mem_singleton.mpr rfl), e]
    rfl
  · have n1 : (1 : Fin S100000x128.rank) ∉ D.startIndexMap := fun h => absurd (List.mem_singleton.mp h) (by decide)
    have e : D.start y ix 1 = 0 := by
      unfold GatherDims.start
      exact dif_neg n1
    rw [e, Nat.zero_add]
    rfl

/-- In range, the rows the reference takes are the table's own. -/
theorem taken_apply (a : S1024x200.Idx → BitVec 32) (ha : ∀ j, (a j).toNat < 100000) (t : S100000x128.Idx → Elt F .f32)
    (y : S1024x200x128.Idx) :
    taken a t y = t (ValueIdx.ix2 ⟨(a (ValueIdx.ix2 (y 0) (y 1))).toNat % 100000, Nat.mod_lt _ (by decide)⟩ (y 2)) := by
  have hb := ha (ValueIdx.ix2 (y 0) (y 1))
  have hs := signed_of_small _ hb
  have hm : Host.reduce IntOp.andi (valid a) (constantI S_ 1 1#1) reducesTo_S1024x200x1_S1024x200_d2 h_S_ = fun _ => 1#1 :=
    funext fun k => Host.reduce_andi_one _ _ _ _ k rfl (valid_apply a ha)
  unfold taken
  rw [hm]
  refine (ValueIdx.select_one _ _).trans ?_
  rw [gather_row]
  congr 1
  have e : wrapped a (ValueIdx.ix3 (y 0) (y 1) 0) = a (ValueIdx.ix2 (y 0) (y 1)) := wrapped_apply a ha _
  refine congrArg (fun r => ValueIdx.ix2 r (y 2)) (Fin.ext ?_)
  show min (wrapped a (ValueIdx.ix3 (y 0) (y 1) 0)).toInt.toNat 99999 = (a (ValueIdx.ix2 (y 0) (y 1))).toNat % 100000
  rw [e, hs, Int.toNat_natCast]
  omega

/-- In range, the reference's joined rows are the lookup. -/
theorem joined_eq (a : S1024x200.Idx → BitVec 32) (ha : ∀ j, (a j).toNat < 100000) (b : S1024x200x64.Idx → Elt F .f32)
    (t : S100000x128.Idx → Elt F .f32) :
    concatenate S1024x200x192 2 [⟨S1024x200x128, taken a t⟩, ⟨S1024x200x64, b⟩]
      concatenates_S1024x200x128_S1024x200x64_S1024x200x192_d2 = looked (F := F) a b t := by
  funext j
  unfold looked
  have h2 : (j 2).val < 192 := (j 2).isLt
  by_cases h : (j 2).val < 128
  · rw [dif_pos h, concatenate_pair_apply_left (t := S1024x200x192) 2 (taken a t) b _ j rfl
      (ValueIdx.ix3 (j 0) (j 1) ⟨(j 2).val, h⟩)
      (fun c => match c with | ⟨0, _⟩ => rfl | ⟨1, _⟩ => rfl | ⟨2, _⟩ => rfl), taken_apply a ha]
  · rw [dif_neg h, concatenate_pair_apply_right (t := S1024x200x192) 2 (taken a t) b _ j rfl rfl
      (ValueIdx.ix3 (j 0) (j 1) ⟨(j 2).val - 128, by show _ < 64; omega⟩)
      (fun c hc => match c, hc with | ⟨0, _⟩, _ => rfl | ⟨1, _⟩, _ => rfl | ⟨2, _⟩, hc => absurd rfl hc)
      (by show (j 2).val - 128 + 128 = (j 2).val; omega)]

abbrev aLoc (d : Dev nD) : Loc nD τ sig := (d.tc : Thread nD τ).loc main_arg0
abbrev bLoc (d : Dev nD) : Loc nD τ sig := (d.tc : Thread nD τ).loc main_arg1
abbrev tLoc (d : Dev nD) : Loc nD τ sig := (d.tc : Thread nD τ).loc main_arg2

variable (m : (ℓ : Loc nD τ sig) → Buf (Elt F) ℓ) (ρ : Dev nD → PrngReg)

/-- The reference runs from any memory and leaves its arguments alone, with every counter at zero. -/
theorem run_frame :
    θ_run (defs (F := F)) (onTc (τ := τ) (main (F := F))) ⟨m, fun _ => 0, ρ⟩ fun r =>
      (∀ c : Dev nD, r.2.mem (aLoc c) = m (aLoc c) ∧ r.2.mem (bLoc c) = m (bLoc c) ∧ r.2.mem (tLoc c) = m (tLoc c))
        ∧ r.2.sem = fun _ => 0 :=
  (θ_run (defs (F := F)) _ _).mono (fun r h => ⟨fun c => (h c).2, sem_eq_zero_of_no_sems (by decide) r.2⟩)
    (Cert.ReferenceIdeal.Value.run m ρ)

/-- From indices in range the reference's result is the lookup. -/
theorem run_value (ha : ∀ (d : Dev nD) (j : S1024x200.Idx), (m (aLoc d) j : BitVec 32).toNat < 100000) :
    θ_run (defs (F := F)) (onTc (τ := τ) (main (F := F))) ⟨m, fun _ => 0, ρ⟩ fun r => ∀ c : Dev nD,
      r.2.mem ((c.tc : Thread nD τ).loc main_v1) = looked (F := F) (m (aLoc c)) (m (bLoc c)) (m (tLoc c))
        ∧ r.2.mem (aLoc c) = m (aLoc c) ∧ r.2.mem (bLoc c) = m (bLoc c) ∧ r.2.mem (tLoc c) = m (tLoc c) :=
  (θ_run (defs (F := F)) _ _).mono (fun _ h c => ⟨(h c).1.trans (joined_eq _ (ha c) _ _), (h c).2⟩)
    (Cert.ReferenceIdeal.Value.run m ρ)

end Cert.Proof.Ref

end
-- ==== Proof.Value.lean ====
/-
  The kernel's result and the reference's are one array, and what the precondition says of the indices.
-/
module

public import proofs.«01_k».proof.Proof.LaunchIdeal
public import proofs.«01_k».proof.Proof.Ref
public import proofs.«01_k».proof.Proof.Gen.Pre_in_vocabulary

@[expose] public section

noncomputable section

namespace Cert.Proof.Value

open Cert.KernelIdeal Cert.KernelIdeal.Gen
open Idealize.ShloMosaic Idealize.SL.Sem
open Cert.Proof.LookupIdeal (aLoc bLoc tLoc fI fX flat res want)

variable {F : FTy → Type} [FloatOps F] (m : (ℓ : Loc nD τ sig) → Buf (Elt F) ℓ)

/-- The flat index array at the row of sequence `b`, position `l`. -/
theorem fI_apply (d : Dev nD) (b : Fin 1024) (l : Fin 200) (r : Fin 204800) (h : r.val = b.val * 200 + l.val) :
    fI m d (ValueIdx.ix1 r) = m (aLoc d) (ValueIdx.ix2 b l) := by
  unfold fI
  refine shapeCast_apply _ _ _ _ ?_
  show (S1024x200.rowMajor (ValueIdx.ix2 b l)).val = _
  rw [Shape.rowMajor_val_two, Shape.rowMajor_val_one]
  exact h.symm

/-- The flat features at that row. -/
theorem fX_apply (d : Dev nD) (b : Fin 1024) (l : Fin 200) (c : Fin 64) (r : Fin 204800) (h : r.val = b.val * 200 + l.val) :
    fX m d (ValueIdx.ix2 r c) = m (bLoc d) (ValueIdx.ix3 b l c) := by
  unfold fX
  refine shapeCast_apply _ _ _ _ ?_
  show (S1024x200x64.rowMajor (ValueIdx.ix3 b l c)).val = _
  rw [Shape.rowMajor_val_three, Shape.rowMajor_val_two]
  show (b.val * 200 + l.val) * 64 + c.val = r.val * 64 + c.val
  rw [h]

/-- What the kernel returns is the lookup of its arguments. -/
theorem res_eq (d : Dev nD) : res m d = Ref.looked (F := F) (m (aLoc d)) (m (bLoc d)) (m (tLoc d)) := by
  funext j
  have h0 : (j 0).val < 1024 := (j 0).isLt
  have h1 : (j 1).val < 200 := (j 1).isLt
  have hr : (j 0).val * 200 + (j 1).val < 204800 := by omega
  have e : res m d j = flat m d (ValueIdx.ix2 ⟨(j 0).val * 200 + (j 1).val, hr⟩ (j 2)) := by
    unfold res
    refine shapeCast_apply _ _ _ _ ?_
    rw [Shape.rowMajor_val_three, Shape.rowMajor_val_two]
    rfl
  rw [e]
  unfold flat want Ref.looked
  by_cases h : (j 2).val < 128
  · refine (dif_pos h).trans (Eq.trans ?_ (dif_pos h).symm)
    congr 1
    refine congrArg (fun r => ValueIdx.ix2 r _) (Fin.ext ?_)
    exact congrArg (fun v : BitVec 32 => v.toNat % 100000) (fI_apply m d (j 0) (j 1) _ rfl)
  · refine (dif_neg h).trans (Eq.trans ?_ (dif_neg h).symm)
    exact fX_apply m d (j 0) (j 1) _ _ rfl

/-- A word that the precondition's two comparisons pass is below 100000. -/
theorem small_of_checks (v : BitVec 32) (h : IntOp.andi (IntOp.cmpi .sge v 0#32) (IntOp.cmpi .slt v 100000#32) = 1#1) :
    v.toNat < 100000 := by
  have both : ∀ p q : BitVec 1, IntOp.andi p q = 1#1 → p = 1#1 ∧ q = 1#1 := by decide
  obtain ⟨hge, hlt⟩ := both _ _ h
  have h1 := IntOp.cmpi_sge.1 hge
  have h2 := IntOp.cmpi_slt.1 hlt
  have z : (0#32 : BitVec 32).toInt = 0 := by decide
  have w : (100000#32 : BitVec 32).toInt = 100000 := by decide
  rw [z] at h1
  rw [w] at h2
  have hv := v.isLt
  rw [BitVec.toInt_eq_toNat_cond] at h1 h2
  split at h1 <;> omega

/-- The precondition, all ones, puts every index in range. -/
theorem small_of_pre (a : S1024x200.Idx → BitVec 32) (b : S1024x200x64.Idx → F .f32) (t : S100000x128.Idx → F .f32)
    (h : (haveI := Cert.Pre_in_vocabulary.Gen.facts; Cert.Pre_in_vocabulary.fn (F := F) a b t) = fun _ => 1#1) (j : S1024x200.Idx) :
    (a j).toNat < 100000 :=
  small_of_checks (a j) (congrFun h j)

end Cert.Proof.Value

end
-- ==== Proof.lean ====
/-
  The certificate's claim: the two programs of the kernel run and leave nothing pending, the reference runs, and the
  kernel's result is the reference's.
-/
module

public import proofs.«01_k».proof.Defs
public import proofs.«01_k».proof.Proof.Launch
public import proofs.«01_k».proof.Proof.LaunchIdeal
public import proofs.«01_k».proof.Proof.Ref
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_in_vocabulary

@[expose] public section

noncomputable section

namespace Cert.Proof

open Idealize.ShloMosaic Idealize.SL.Sem

/-- From indices in range the kernel runs, its arguments end unchanged and every counter ends at zero. -/
theorem frame_kernel : Cert.quiescent_Kernel := fun m ρ hpre =>
  (θ_run Cert.Kernel.defs _ _).mono (fun _ h => ⟨fun c => ⟨(h.1 c).1, (h.1 c).2.1, (h.1 c).2.2.1⟩, h.2⟩)
    (Lookup.run_main (F := Bits) m ρ fun d j => Value.small_of_pre (F := Bits) _ _ _ (hpre d) j)

/-- The same of the idealized kernel. -/
theorem frame_kernelIdeal : Cert.quiescent_KernelIdeal := fun m ρ hpre =>
  (θ_run Cert.KernelIdeal.defs _ _).mono (fun _ h => ⟨fun c => ⟨(h.1 c).1, (h.1 c).2.1, (h.1 c).2.2.1⟩, h.2⟩)
    (LookupIdeal.run_main (F := Ideal) m ρ fun d j => Value.small_of_pre (F := Ideal) _ _ _ (hpre d) j)

/-- The reference runs, its arguments end unchanged and every counter ends at zero. -/
theorem frame_reference : Cert.quiescent_ReferenceIdeal := fun m ρ _ => Ref.run_frame (F := Ideal) m ρ

/-- The same, asked only of indices in range. -/
theorem frame_reference_pre : Cert.quiescent_ReferenceIdeal_pre_in_vocabulary := fun m ρ _ => Ref.run_frame (F := Ideal) m ρ

/-- Over the extended reals the kernel and the reference, run on the same arguments with the indices in range, leave the
    same result: each leaves the lookup of its arguments. -/
theorem same_value : Cert.algebraic_KernelIdeal_ReferenceIdeal := by
  intro m g m' g' hpre hag
  have hm : LookupIdeal.PreOK m := fun d j => Value.small_of_pre (F := Ideal) _ _ _ (hpre d) j
  have hm' : ∀ d j, (m' (Ref.aLoc d) j : BitVec 32).toNat < 100000 := by
    intro d j
    have e := congrFun (hag d).1 j
    show (m' _ j : BitVec 32).toNat < 100000
    rw [e]
    exact hm d j
  have hv : ∀ c, Ref.looked (F := Ideal) (m' (Ref.aLoc c)) (m' (Ref.bLoc c)) (m' (Ref.tLoc c)) = LookupIdeal.res m c := by
    intro c
    refine Eq.trans ?_ (Value.res_eq m c).symm
    obtain ⟨ha, hb, ht⟩ := hag c
    unfold Ref.aLoc Ref.bLoc Ref.tLoc
    rw [ha, hb, ht]
  exact ⟨fun c => LookupIdeal.res m c,
    (θ_run Cert.KernelIdeal.defs _ _).mono
      (fun _ h c => ⟨(h.1 c).2.2.2, (h.1 c).1, (h.1 c).2.1, (h.1 c).2.2.1⟩) (LookupIdeal.run_main (F := Ideal) m g hm),
    (θ_run Cert.ReferenceIdeal.defs _ _).mono (fun _ h c => ⟨(h c).1.trans (hv c), (h c).2⟩)
      (Ref.run_value (F := Ideal) m' g' hm')⟩

/-- All the claims together, with the programs' stated conditions. -/
theorem claim : Cert.Claim :=
  ⟨Cert.Kernel.Gen.facts, Cert.KernelIdeal.Gen.facts, Cert.ReferenceIdeal.Gen.facts, Cert.Pre_in_vocabulary.Gen.facts,
    frame_kernel, frame_kernelIdeal, frame_reference, frame_reference_pre, trivial, same_value⟩

end Cert.Proof

end
